-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S32x64x128x128 : Shape := ⟨4, ![32, 64, 128, 128]⟩
abbrev S64x64 : Shape := ⟨2, ![64, 64]⟩
abbrev S64 : Shape := ⟨1, ![64]⟩
abbrev S_ : Shape := ⟨0, ![]⟩

class Facts : Prop where
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S32x64x128x128 .f32) (main_arg1 : FVec F S64x64 .f32) (main_arg2 : FVec F S64 .f32) : IVec S_ 1 :=
  let main_v0 : FVec F S32x64x128x128 .f32 := Host.absf main_arg0
  let main_cst : FVec F S_ .f32 := constant S_ .f32 0x7F800000#32
  let main_v1 : FVec F S32x64x128x128 .f32 := broadcastInDim S32x64x128x128 ![] bcast_S_S32x64x128x128 main_cst
  let main_v2 : IVec S32x64x128x128 1 := cmpf .olt main_v0 main_v1
  let main_c : IVec S_ 1 := constantI S_ 1 1#1
  let main_v3 : IVec S_ 1 := (fun x v => Host.reduce IntOp.andi x v reducesTo_S32x64x128x128_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S32x64x128x128 : Shape := ⟨4, ![32, 64, 128, 128]⟩
abbrev S64x64 : Shape := ⟨2, ![64, 64]⟩
abbrev S64 : Shape := ⟨1, ![64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x128x128 : Shape := ⟨3, ![1, 128, 128]⟩
abbrev S1x64 : Shape := ⟨2, ![1, 64]⟩
abbrev S2x64 : Shape := ⟨2, ![2, 64]⟩
abbrev S128x1x1 : Shape := ⟨3, ![128, 1, 1]⟩
abbrev S2x2 : Shape := ⟨2, ![2, 2]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S2x64x128x128 : Shape := ⟨4, ![2, 64, 128, 128]⟩
abbrev S128x128x128 : Shape := ⟨3, ![128, 128, 128]⟩
abbrev S128x1x128 : Shape := ⟨3, ![128, 1, 128]⟩
abbrev S128x127x128 : Shape := ⟨3, ![128, 127, 128]⟩
abbrev S128x16384 : Shape := ⟨2, ![128, 16384]⟩
abbrev S16384x128 : Shape := ⟨2, ![16384, 128]⟩

abbrev nBuf : Space → Nat
  | .hbm => 69
  | .vmem => 8
  | .smem => 0
  | _ => 0

abbrev bufTy : (tb : Table) → Fin (tcTables nBuf tb) → BufTy
  | .hbm, ⟨0, _⟩ => ⟨S32x64x128x128, .f32⟩
  | .hbm, ⟨1, _⟩ => ⟨S64x64, .f32⟩
  | .hbm, ⟨2, _⟩ => ⟨S64, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i1⟩
  | .hbm, ⟨13, _⟩ => ⟨S128x128, .bf16⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S128, .i1⟩
  | .hbm, ⟨35, _⟩ => ⟨S_, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128x1, .f32⟩
  | .hbm, ⟨41, _⟩ => ⟨S1x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S1x128x128, .f32⟩
  | .hbm, ⟨50, _⟩ => ⟨S1x64, .f32⟩
  | .hbm, ⟨51, _⟩ => ⟨S2x64, .f32⟩
  | .hbm, ⟨52, _⟩ => ⟨S128, .f32⟩
  | .hbm, ⟨53, _⟩ => ⟨S128x1x1, .f32⟩
  | .hbm, ⟨54, _⟩ => ⟨S2x2, .i32⟩
  | .hbm, ⟨55, _⟩ => ⟨S2x2, .i32⟩
  | .hbm, ⟨56, _⟩ => ⟨S_, .i32⟩
  | .hbm, ⟨57, _⟩ => ⟨S2x2, .i32⟩
  | .hbm, ⟨58, _⟩ => ⟨S2x2, .i32⟩
  | .hbm, ⟨59, _⟩ => ⟨S2x2, .i1⟩
  | .hbm, ⟨60, _⟩ => ⟨S2x2, .f32⟩
  | .hbm, ⟨61, _⟩ => ⟨S2x1x2x1, .f32⟩
  | .hbm, ⟨62, _⟩ => ⟨S1x64x1x64, .f32⟩
  | .hbm, ⟨63, _⟩ => ⟨S2x64x2x64, .f32⟩
  | .hbm, ⟨64, _⟩ => ⟨S2x64x2x64, .f32⟩
  | .hbm, ⟨65, _⟩ => ⟨S2x64x2x64, .f32⟩
  | .hbm, ⟨66, _⟩ => ⟨S128x128, .f32⟩
  | .hbm, ⟨67, _⟩ => ⟨S128x128, .bf16⟩
  | .hbm, ⟨68, _⟩ => ⟨S32x64x128x128, .f32⟩
  | .local _ .vmem, ⟨0, _⟩ => ⟨S2x64x128x128, .f32⟩
  | .local _ .vmem, ⟨1, _⟩ => ⟨S2x64x128x128, .f32⟩
  | .local _ .vmem, ⟨2, _⟩ => ⟨S128x128, .bf16⟩
  | .local _ .vmem, ⟨3, _⟩ => ⟨S128x1x1, .f32⟩
  | .local _ .vmem, ⟨4, _⟩ => ⟨S128x128, .bf16⟩
  | .local _ .vmem, ⟨5, _⟩ => ⟨S1x128x128, .f32⟩
  | .local _ .vmem, ⟨6, _⟩ => ⟨S2x64x128x128, .f32⟩
  | .local _ .vmem, ⟨7, _⟩ => ⟨S2x64x128x128, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x64x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x64x128x128 : Shape := ⟨4, ![32, 64, 128, 128]⟩
abbrev S64x64 : Shape := ⟨2, ![64, 64]⟩
abbrev S64 : Shape := ⟨1, ![64]⟩
abbrev S_ : Shape := ⟨0, ![]⟩
abbrev S128x128 : Shape := ⟨2, ![128, 128]⟩
abbrev S1x1x128x128 : Shape := ⟨4, ![1, 1, 128, 128]⟩
abbrev S64x32x128x128 : Shape := ⟨4, ![64, 32, 128, 128]⟩
abbrev S1x64x1x1 : Shape := ⟨4, ![1, 64, 1, 1]⟩

abbrev nBuf : Space → Nat
  | .hbm => 20
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S64x64, .f32⟩
  | .hbm, ⟨2, _⟩ => ⟨S64, .f32⟩
  | .hbm, ⟨3, _⟩ => ⟨S_, .f32⟩
  | .hbm, ⟨4, _⟩ => ⟨S_, .f32⟩
  | .hbm, ⟨5, _⟩ => ⟨S32x64x128x128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S_, .f32⟩
  | .hbm, ⟨10, _⟩ => ⟨S128x128, .f32⟩
  | .hbm, ⟨11, _⟩ => ⟨S1x1x128x128, .f32⟩
  | .hbm, ⟨12, _⟩ => ⟨S32x64x128x128, .f32⟩
  | .hbm, ⟨13, _⟩ => ⟨S32x64x128x128, .f32⟩
  | .hbm, ⟨14, _⟩ => ⟨S64x32x128x128, .f32⟩
  | .hbm, ⟨15, _⟩ => ⟨S32x64x128x128, .f32⟩
  | .hbm, ⟨16, _⟩ => ⟨S1x64x1x1, .f32⟩
  | .hbm, ⟨17, _⟩ => ⟨S32x64x128x128, .f32⟩
  | .hbm, ⟨18, _⟩ => ⟨S32x64x128x128, .f32⟩
  | .hbm, ⟨19, _⟩ => ⟨S32x64x128x128, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Finite.lean ====
/-
  WHAT THE PRECONDITION GIVES. `finite_args` tests `|x| < ∞` at every element of the input and of the weights; where it
  holds, every one of them is a real number.
-/
module

public import proofs.«01_k».proof.Proof.Gen.Pre_finite_args
public import Idealize.ShloMosaic.Lib.Pointwise
public import Idealize.ShloMosaic.Lib.ReduceAll

@[expose] public section

noncomputable section

open Idealize.ShloMosaic

namespace Cert.Pre_finite_args.Meaning

open Cert.Pre_finite_args Cert.Pre_finite_args.Gen

/-- The bit pattern of the single-precision infinity reads as the top element. -/
theorem ofBits_inf : Ideal.ofBits .f32 0x7F800000#32 = (⊤ : EReal) := by
  simp [Ideal.ofBits, Ideal.ieee]

/-- An extended real whose absolute value tests below infinity is a real number. -/
theorem real_of_abs_lt (a : EReal) (h : Ideal.cmp .olt (max a (-a)) ⊤ = 1#1) : ((a.toReal : ℝ) : EReal) = a := by
  have h' : max a (-a) < ⊤ := by
    by_contra hn
    simp [Ideal.cmp, hn] at h
  refine EReal.coe_toReal ?_ ?_
  · rintro rfl; simp at h'
  · rintro rfl; simp at h'

/-- Where `finite_args` holds, every element of the input and of the weights is a real number. -/
theorem real_args (x : FVec Ideal S32x64x128x128 .f32) (wt : FVec Ideal S64x64 .f32) (bs : FVec Ideal S64 .f32)
    (h : fn x wt bs = fun _ => 1#1) :
    (∀ i, (((x i : EReal).toReal : ℝ) : EReal) = x i) ∧ ∀ i, (((wt i : EReal).toReal : ℝ) : EReal) = wt i := by
  have h0 := congrFun h default
  unfold fn at h0
  have hb : ∀ a b : BitVec 1, IntOp.andi a b = 1#1 → a = 1#1 ∧ b = 1#1 := by decide
  obtain ⟨h1, h2⟩ := hb _ _ h0
  have : Subsingleton S_.Idx := ⟨fun a b => funext fun k => k.elim0⟩
  refine ⟨fun i => ?_, fun i => ?_⟩
  · have := Host.reduce_andi_all _ _ _ _ _ h1 i
    exact real_of_abs_lt _ (by rw [← ofBits_inf]; exact this)
  · have := Host.reduce_andi_all _ _ _ _ _ h2 i
    exact real_of_abs_lt _ (by rw [← ofBits_inf]; exact this)

end Cert.Pre_finite_args.Meaning

end
-- ==== Proof.Block.lean ====
/-
  WHAT ONE BLOCK COMPUTES. The kernel's body takes two images (64 channels of 128 × 128 each) as 128 stacked channel
  rows and stores one result block of the same shape; here its stored payload is read at one element, at the ideal
  instance: the image's element, plus the channel-mixed, vertically then horizontally summed box times the
  reciprocal count, plus the bias.
-/
module

public import proofs.«01_k».proof.Proof.Gen.KernelIdeal.Skeleton
public import Idealize.ShloMosaic.Lib.Pointwise

@[expose] public section

noncomputable section

open Idealize.ShloMosaic
open scoped BigOperators

namespace Cert.KernelIdeal.Block

open Cert.KernelIdeal Cert.KernelIdeal.Gen

/-- Row `64 g + o` of the 128 stacked channel rows: channel `o` of the block's image `g`. -/
def row (g : Fin 2) (o : Fin 64) : Fin 128 := ⟨g.val * 64 + o.val, by omega⟩

/-- The image of a stacked channel row. -/
def img (k : Fin 128) : Fin 2 := ⟨k.val / 64, by omega⟩

/-- The channel, within its image, of a stacked channel row. -/
def chan (k : Fin 128) : Fin 64 := ⟨k.val % 64, by omega⟩

/-- Row `64 g + o` belongs to image `g`. -/
theorem img_row (g : Fin 2) (o : Fin 64) : img (row g o) = g := by
  apply Fin.ext; simp only [img, row]; omega

/-- Row `64 g + o` is channel `o` of its image. -/
theorem chan_row (g : Fin 2) (o : Fin 64) : chan (row g o) = o := by
  apply Fin.ext; simp only [chan, row]; omega

/-- A column's three-term sum around position `h`, the terms outside the column dropped, in the order the kernel
    adds them: the element, the one above, the one below. -/
def colSum (f : Fin 128 → EReal) (h : Fin 128) : EReal :=
  f h + (if _ : h.val < 1 then 0 else f ⟨h.val - 1, by omega⟩)
    + (if _ : h.val < 127 then f ⟨1 + h.val, by omega⟩ else 0)

/-- The stored payload at an element, for any contents of the five staged blocks: `wt` the stacked weights, `tw` the
    horizontal window's table, `iv` the reciprocal counts, `bs` the stacked bias. -/
theorem pay_apply (x : FVec Ideal S2x64x128x128 .f32) (wt tw : FVec Ideal S128x128 .bf16)
    (iv : FVec Ideal S1x128x128 .f32) (bs : FVec Ideal S128x1x1 .f32) (g : Fin 2) (o : Fin 64) (h w : Fin 128) :
    k0_pay1 x wt tw iv bs (ix4 g o h w)
      = x (ix4 g o h w)
        + (∑ w' : Fin 128,
            (∑ k : Fin 128, wt (ix2 (row g o) k) * colSum (fun h' => x (ix4 (img k) (chan k) h' w')) h)
              * tw (ix2 w' w)) * iv (ix3 0 h w)
        + bs (ix3 (row g o) 0 0) := by
  have e : (⟨((g.val * 64 + o.val) * 128 + h.val) / 128, by omega⟩ : Fin 128) = row g o := by
    apply Fin.ext; simp only [row]; omega
  pointwise [k0_pay1]
  exact congrArg₂ (· + ·) (congrArg₂ (· + ·) rfl (congrArg₂ (· * ·) (Finset.sum_congr rfl fun w' _ =>
    congrArg₂ (· * ·) (Finset.sum_congr rfl fun k _ => congrArg₂ (· * ·) (congrArg (fun r => wt (ix2 r k)) e) rfl) rfl) rfl)) rfl

end Cert.KernelIdeal.Block
-- ==== Proof.Window.lean ====
/-
  THE WINDOW SUM AT AN ELEMENT. At the ideal instance the host's float window sum is a left fold over the window's
  positions in row-major order; addition of extended reals being associative and commutative, it is the initial value
  plus the sum over the window's multi-indices. The two windows of the reference, 3 × 3 with one row and column of
  zero padding on each side, are read from that as nested three-term sums (`win3`).
-/
module

public import Idealize.ShloMosaic.Lib.Pointwise

@[expose] public section

noncomputable section

open Idealize.ShloMosaic
open scoped BigOperators

namespace Cert.Proof.Window

/-- A left fold that adds `f n` at each step is the start plus the sum of the list's images. -/
theorem foldl_add_eq {M ι : Type} [AddCommMonoid M] (f : ι → M) (l : List ι) (v : M) :
    l.foldl (fun r n => r + f n) v = v + (l.map f).sum := by
  induction l generalizing v with
  | nil => simp
  | cons a l ih => rw [List.foldl_cons, ih, List.map_cons, List.sum_cons, add_assoc]

/-- The window position's operand coordinate on each axis, before the low padding is taken off. -/
def pos {s t : Shape} {window strides lo hi : Fin s.rank → Nat} (h : s.ReduceWindows window strides lo hi t)
    (j : t.Idx) (q : (⟨s.rank, window⟩ : Shape).Idx) (a : Fin s.rank) : Nat :=
  (j (a.cast h.1.symm)).val * strides a + (q a).val

/-- The window sum at a result index: the initial value, plus over the window's positions the operand's element where
    the position is inside the operand and the initial value where it is padding. -/
theorem reduceWindowAdd_eq_sum {s t : Shape} (window strides lo hi : Fin s.rank → Nat)
    (h : s.ReduceWindows window strides lo hi t) (x : s.Idx → EReal) (init : EReal) (j : t.Idx) :
    Ideal.hostReduceWindowAdd window strides lo hi h x init j
      = init + ∑ q : (⟨s.rank, window⟩ : Shape).Idx,
          (if hin : ∀ a, lo a ≤ pos h j q a ∧ pos h j q a - lo a < s.size a
            then x (fun a => ⟨pos h j q a - lo a, (hin a).2⟩) else init) := by
  rw [← Equiv.sum_comp (⟨s.rank, window⟩ : Shape).rowMajor.symm, Fin.sum_univ_def]
  unfold Ideal.hostReduceWindowAdd Host.reduceWindow
  dsimp only
  refine (foldl_add_eq _ (List.finRange _) init).trans ?_
  exact congrArg (init + ·) (congrArg List.sum (List.map_congr_left fun n _ =>
    dite_congr rfl (fun _ => rfl) (fun _ => rfl)))

/-- A sequence's three-term sum around position `h`, the terms outside the sequence dropped. -/
def win3 {M : Type} [AddCommMonoid M] (f : Fin 128 → M) (h : Fin 128) : M :=
  ∑ i : Fin 3, if hi : 1 ≤ h.val + i.val ∧ h.val + i.val - 1 < 128 then f ⟨h.val + i.val - 1, hi.2⟩ else 0

/-- The box sum of a stack of images at an element: the nested three-term sums over rows and columns. -/
theorem box4 {A B : Nat}
    (h : (⟨4, ![A, B, 128, 128]⟩ : Shape).ReduceWindows ![1, 1, 3, 3] ![1, 1, 1, 1] ![0, 0, 1, 1] ![0, 0, 1, 1] ⟨4, ![A, B, 128, 128]⟩)
    (x : (⟨4, ![A, B, 128, 128]⟩ : Shape).Idx → EReal) (a : Fin A) (b : Fin B) (r l : Fin 128) :
    Ideal.hostReduceWindowAdd ![1, 1, 3, 3] ![1, 1, 1, 1] ![0, 0, 1, 1] ![0, 0, 1, 1] h x 0 (ix4 a b r l)
      = win3 (fun r' => win3 (fun l' => x (ix4 a b r' l')) l) r := by
  rw [reduceWindowAdd_eq_sum, zero_add]
  refine (sum_idx4 (n0 := 1) (n1 := 1) (n2 := 3) (n3 := 3) _).trans ?_
  simp only [Fin.sum_univ_one, win3]
  refine Finset.sum_congr rfl fun i _ => ?_
  by_cases hr : 1 ≤ r.val + i.val ∧ r.val + i.val - 1 < 128
  · rw [dif_pos hr]
    refine Finset.sum_congr rfl fun j _ => ?_
    by_cases hl : 1 ≤ l.val + j.val ∧ l.val + j.val - 1 < 128
    · rw [dif_pos hl]
      refine (dif_pos ?_).trans (congrArg x ?_)
      · intro k
        match k with
        | ⟨0, _⟩ => exact ⟨Nat.zero_le _, by show a.val * 1 + 0 - 0 < A; have := a.isLt; omega⟩
        | ⟨1, _⟩ => exact ⟨Nat.zero_le _, by show b.val * 1 + 0 - 0 < B; have := b.isLt; omega⟩
        | ⟨2, _⟩ => exact ⟨by show 1 ≤ r.val * 1 + i.val; omega, by show r.val * 1 + i.val - 1 < 128; omega⟩
        | ⟨3, _⟩ => exact ⟨by show 1 ≤ l.val * 1 + j.val; omega, by show l.val * 1 + j.val - 1 < 128; omega⟩
      · funext k; apply Fin.ext
        match k with
        | ⟨0, _⟩ => show a.val * 1 + 0 - 0 = a.val; omega
        | ⟨1, _⟩ => show b.val * 1 + 0 - 0 = b.val; omega
        | ⟨2, _⟩ => show r.val * 1 + i.val - 1 = r.val + i.val - 1; omega
        | ⟨3, _⟩ => show l.val * 1 + j.val - 1 = l.val + j.val - 1; omega
    · rw [dif_neg hl]
      refine dif_neg fun hin => hl ?_
      have h3 : 1 ≤ l.val * 1 + j.val ∧ l.val * 1 + j.val - 1 < 128 := hin 3
      omega
  · rw [dif_neg hr]
    refine Finset.sum_eq_zero fun j _ => dif_neg fun hin => hr ?_
    have h2 : 1 ≤ r.val * 1 + i.val ∧ r.val * 1 + i.val - 1 < 128 := hin 2
    omega

/-- The box sum of one image at an element. -/
theorem box2
    (h : (⟨2, ![128, 128]⟩ : Shape).ReduceWindows ![3, 3] ![1, 1] ![1, 1] ![1, 1] ⟨2, ![128, 128]⟩)
    (x : (⟨2, ![128, 128]⟩ : Shape).Idx → EReal) (r l : Fin 128) :
    Ideal.hostReduceWindowAdd ![3, 3] ![1, 1] ![1, 1] ![1, 1] h x 0 (ix2 r l)
      = win3 (fun r' => win3 (fun l' => x (ix2 r' l')) l) r := by
  rw [reduceWindowAdd_eq_sum, zero_add]
  refine (sum_idx2 (n0 := 3) (n1 := 3) _).trans ?_
  simp only [win3]
  refine Finset.sum_congr rfl fun i _ => ?_
  by_cases hr : 1 ≤ r.val + i.val ∧ r.val + i.val - 1 < 128
  · rw [dif_pos hr]
    refine Finset.sum_congr rfl fun j _ => ?_
    by_cases hl : 1 ≤ l.val + j.val ∧ l.val + j.val - 1 < 128
    · rw [dif_pos hl]
      refine (dif_pos ?_).trans (congrArg x ?_)
      · intro k
        match k with
        | ⟨0, _⟩ => exact ⟨by show 1 ≤ r.val * 1 + i.val; omega, by show r.val * 1 + i.val - 1 < 128; omega⟩
        | ⟨1, _⟩ => exact ⟨by show 1 ≤ l.val * 1 + j.val; omega, by show l.val * 1 + j.val - 1 < 128; omega⟩
      · funext k; apply Fin.ext
        match k with
        | ⟨0, _⟩ => show r.val * 1 + i.val - 1 = r.val + i.val - 1; omega
        | ⟨1, _⟩ => show l.val * 1 + j.val - 1 = l.val + j.val - 1; omega
    · rw [dif_neg hl]
      refine dif_neg fun hin => hl ?_
      have h3 : 1 ≤ l.val * 1 + j.val ∧ l.val * 1 + j.val - 1 < 128 := hin 1
      omega
  · rw [dif_neg hr]
    refine Finset.sum_eq_zero fun j _ => dif_neg fun hin => hr ?_
    have h2 : 1 ≤ r.val * 1 + i.val ∧ r.val * 1 + i.val - 1 < 128 := hin 0
    omega

end Cert.Proof.Window
-- ==== Proof.Sums.lean ====
/-
  THE SUMS. The kernel sums vertically, mixes channels, then sums horizontally (a product with a 0/1 band matrix) and
  multiplies by a reciprocal count; the reference sums each 3 × 3 window, divides by its
  count, then mixes channels. Over real images and weights the two are equal: sums are exchanged and the factors moved
  across them. The theorems here are about sequences, matrices and sums only, no program.
-/
module

public import proofs.«01_k».proof.Proof.Block
public import proofs.«01_k».proof.Proof.Window
public import Idealize.ShloMosaic.Lib.FinSumWindow

@[expose] public section

noncomputable section

open Idealize.ShloMosaic
open scoped BigOperators

namespace Cert.Proof.Sums

open Cert.KernelIdeal.Block Cert.Proof.Window

/-- Two positions at distance at most one. -/
abbrev near (i j : Fin 128) : Prop := i.val ≤ j.val + 1 ∧ j.val ≤ i.val + 1

/-- How many of the three positions around `i` are among the 128: two at an edge, three inside. -/
def edge (i : Fin 128) : ℝ := if i.val = 0 ∨ i.val = 127 then 2 else 3

/-- The count is not zero. -/
theorem edge_ne_zero (i : Fin 128) : edge i ≠ 0 := by
  unfold edge; split_ifs <;> norm_num

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's three-term column sum is the window sum. -/
theorem colSum_eq_win3 (f : Fin 128 → EReal) (h : Fin 128) : colSum f h = win3 f h := by
  have hh := h.isLt
  unfold colSum win3
  rw [Fin.sum_univ_three, add_comm (f h)]
  refine congrArg₂ (· + ·) (congrArg₂ (· + ·) ?_ ?_) ?_
  · by_cases h0 : h.val < 1
    · rw [dif_pos h0, dif_neg (fun hc => by have := hc.1; simp at this; omega)]
    · rw [dif_neg h0, dif_pos ⟨by simp; omega, by simp; omega⟩]
      exact congrArg f (Fin.ext (by simp))
  · rw [dif_pos ⟨by simp, by simp⟩]
    exact congrArg f (Fin.ext (by simp))
  · by_cases h1 : h.val < 127
    · rw [dif_pos h1, dif_pos ⟨by simp, by simp; omega⟩]
      exact congrArg f (Fin.ext (by simp; omega))
    · rw [dif_neg h1, dif_neg (fun hc => by have := hc.2; simp at this; omega)]

section
variable {M : Type} [AddCommMonoid M]

/-- A sum against the band of positions near `h` is the window sum at `h`. -/
theorem sum_near (f : Fin 128 → M) (h : Fin 128) : (∑ i, if near i h then f i else 0) = win3 f h := by
  unfold win3
  have e (k : Fin 3) : (if hi : 1 ≤ h.val + k.val ∧ h.val + k.val - 1 < 128 then f ⟨h.val + k.val - 1, hi.2⟩ else 0)
      = ∑ i : Fin 128, if i.val + 1 = h.val + k.val then f i else 0 := by
    by_cases hi : 1 ≤ h.val + k.val ∧ h.val + k.val - 1 < 128
    · rw [dif_pos hi, Finset.sum_eq_single (⟨h.val + k.val - 1, hi.2⟩ : Fin 128)]
      · rw [if_pos (by show h.val + k.val - 1 + 1 = _; omega)]
      · intro i _ hne
        refine if_neg fun he => hne (Fin.ext ?_)
        show i.val = h.val + k.val - 1
        omega
      · intro hn; exact absurd (Finset.mem_univ _) hn
    · rw [dif_neg hi]
      refine (Finset.sum_eq_zero fun i _ => if_neg fun he => hi ?_).symm
      have := i.isLt
      omega
  simp only [e]
  rw [Finset.sum_comm]
  refine Finset.sum_congr rfl fun i _ => ?_
  rw [Fin.sum_univ_three]
  simp only [Fin.val_zero, Fin.val_one, Fin.val_two]
  by_cases h0 : i.val + 1 = h.val + 0
  · rw [if_pos ⟨by omega, by omega⟩, if_pos h0, if_neg (by omega), if_neg (by omega)]; simp
  · by_cases h1 : i.val + 1 = h.val + 1
    · rw [if_pos ⟨by omega, by omega⟩, if_neg h0, if_pos h1, if_neg (by omega)]; simp
    · by_cases h2 : i.val + 1 = h.val + 2
      · rw [if_pos ⟨by omega, by omega⟩, if_neg h0, if_neg h1, if_pos h2]; simp
      · rw [if_neg (by rintro ⟨a, b⟩; omega), if_neg h0, if_neg h1, if_neg h2]; simp

/-- The window sum of a sum of sequences. -/
theorem win3_sum {ι : Type} (s : Finset ι) (f : ι → Fin 128 → M) (h : Fin 128) :
    win3 (fun i => ∑ k ∈ s, f k i) h = ∑ k ∈ s, win3 (f k) h := by
  simp only [← sum_near]
  rw [Finset.sum_comm]
  refine Finset.sum_congr rfl fun i _ => ?_
  by_cases hn : near i h
  · simp only [if_pos hn]
  · simp only [if_neg hn, Finset.sum_const_zero]

/-- Window sums along the two axes of a matrix may be taken in either order. -/
theorem win3_comm (f : Fin 128 → Fin 128 → M) (r l : Fin 128) :
    win3 (fun l' => win3 (fun r' => f r' l') r) l = win3 (fun r' => win3 (fun l' => f r' l') l) r := by
  have e : (fun l' => win3 (fun r' => f r' l') r) = fun l' => ∑ r', if near r' r then f r' l' else 0 :=
    funext fun l' => (sum_near _ _).symm
  rw [e, win3_sum, ← sum_near (fun r' => win3 (fun l' => f r' l') l)]
  refine Finset.sum_congr rfl fun r' _ => ?_
  by_cases hn : near r' r
  · simp only [if_pos hn]
  · simp only [if_neg hn]
    simp [win3]

end

/-- A real factor comes out of a window sum. -/
theorem win3_mul (a : ℝ) (f : Fin 128 → ℝ) (h : Fin 128) : win3 (fun i => a * f i) h = a * win3 f h := by
  rw [← sum_near, ← sum_near, Finset.mul_sum]
  refine Finset.sum_congr rfl fun i _ => ?_
  rw [mul_ite, mul_zero]

/-- The window sum of a constant is the count times it. -/
theorem win3_const (a : ℝ) (h : Fin 128) : win3 (fun _ => a) h = edge h * a := by
  have hh := h.isLt
  unfold win3 edge
  rw [Fin.sum_univ_three]
  simp only [Fin.val_zero, Fin.val_one, Fin.val_two]
  by_cases h0 : h.val = 0
  · rw [dif_neg (by omega), dif_pos (by omega), dif_pos (by omega), if_pos (Or.inl h0)]; ring
  · by_cases h1 : h.val = 127
    · rw [dif_pos (by omega), dif_pos (by omega), dif_neg (by omega), if_pos (Or.inr h1)]; ring
    · rw [dif_pos (by omega), dif_pos (by omega), dif_pos (by omega), if_neg (by omega)]; ring

/-- A window sum of reals, read in the extended reals. -/
theorem win3_coe (f : Fin 128 → ℝ) (h : Fin 128) : win3 (fun i => (f i : EReal)) h = ((win3 f h : ℝ) : EReal) := by
  rw [← sum_near, ← sum_near, coe_sum]
  refine Finset.sum_congr rfl fun i _ => ?_
  split_ifs <;> simp

/-- A sum over the stacked rows against weights that vanish off image `g` is the sum over that image's channels. -/
theorem sum_img (g : Fin 2) (W : Fin 64 → ℝ) (f : Fin 128 → ℝ) :
    (∑ k : Fin 128, (if g = img k then W (chan k) else 0) * f k) = ∑ c : Fin 64, W c * f (row g c) := by
  rw [FinSumWindow.sum_window (g.val * 64) (W := 64) (by omega)]
  · refine Finset.sum_congr rfl fun c _ => ?_
    show (if g = img (row g c) then W (chan (row g c)) else 0) * f (row g c) = _
    rw [img_row, chan_row, if_pos rfl]
  · intro k hk
    rw [if_neg, zero_mul]
    intro he
    refine hk ?_
    have hv : g.val = k.val / 64 := congrArg Fin.val he
    omega

/-- The equation over the reals: channels mixed, then summed over rows and columns and scaled, is the mixture of the
    scaled box sums. -/
theorem real_eq (g : Fin 2) (W : Fin 64 → ℝ) (Y : Fin 128 → Fin 128 → Fin 128 → ℝ) (q : ℝ) (h w : Fin 128) :
    (∑ w' : Fin 128, (∑ k : Fin 128, (if g = img k then W (chan k) else 0) * win3 (fun h' => Y k h' w') h)
        * (if near w' w then 1 else 0)) * q
      = ∑ c : Fin 64, W c * (win3 (fun h' => win3 (fun w' => Y (row g c) h' w') w) h * q) := by
  simp only [sum_img, mul_ite, mul_one, mul_zero]
  rw [sum_near, win3_sum, Finset.sum_mul]
  refine Finset.sum_congr rfl fun c _ => ?_
  rw [win3_mul, win3_comm (fun h' w' => Y (row g c) h' w'), mul_assoc]

/-- The equation as the two programs spell it, in the extended reals, for a real image and real weights: on the left
    the kernel's order, on the right the reference's, whose count is the box sum of an array of ones. -/
theorem ereal_eq (g : Fin 2) (W : Fin 64 → ℝ) (Y : Fin 128 → Fin 128 → Fin 128 → ℝ) (h w : Fin 128) :
    (∑ w' : Fin 128,
        (∑ k : Fin 128, (if g = img k then (W (chan k) : EReal) else 0) * colSum (fun h' => (Y k h' w' : EReal)) h)
          * (if near w' w then 1 else 0)) * ((1 / (edge h * edge w) : ℝ) : EReal)
      = ∑ c : Fin 64, (W c : EReal)
          * Ideal.div (win3 (fun h' => win3 (fun w' => (Y (row g c) h' w' : EReal)) w) h)
              (win3 (fun _ => win3 (fun _ => (1 : EReal)) w) h) := by
  have hcount : win3 (fun _ => win3 (fun _ => (1 : EReal)) w) h = ((edge h * edge w : ℝ) : EReal) := by
    have e1 : win3 (fun _ => (1 : EReal)) w = ((edge w : ℝ) : EReal) := by
      rw [← EReal.coe_one, win3_coe (fun _ => (1 : ℝ)), win3_const, mul_one]
    rw [e1, win3_coe (fun _ => edge w), win3_const]
  rw [hcount]
  simp only [Ideal.div_coe (mul_ne_zero (edge_ne_zero h) (edge_ne_zero w)), colSum_eq_win3, win3_coe]
  have ew (k : Fin 128) : (if g = img k then (W (chan k) : EReal) else 0)
      = ((if g = img k then W (chan k) else 0 : ℝ) : EReal) := by split_ifs <;> simp
  have en (w' : Fin 128) : (if near w' w then (1 : EReal) else 0) = ((if near w' w then 1 else 0 : ℝ) : EReal) := by
    split_ifs <;> simp
  simp only [ew, en, ← EReal.coe_mul, ← coe_sum]
  exact congrArg _ (real_eq g W Y _ h w)

end Cert.Proof.Sums
-- ==== Proof.HostTables.lean ====
/-
  THE TABLES THE KERNEL'S HOST CODE BUILDS. Before its one launch the program builds, from the weights and the bias,
  four arrays the kernel then reads: the stacked weights (two copies of the 64 × 64 matrix on the diagonal of a
  128 × 128 one), the stacked bias, the horizontal band (1 where two columns are at distance at most one), and the
  reciprocal counts. Each is read here at an element, at the ideal instance.
-/
module

public import proofs.«01_k».proof.Proof.Gen.KernelIdeal.Frame
public import proofs.«01_k».proof.Proof.Sums
public import Idealize.ShloMosaic.Lib.Pointwise
public import Idealize.ShloMosaic.Lib.StableHlo.ReadAt

@[expose] public section

noncomputable section

open Idealize.ShloMosaic Idealize.ShloMosaic.TcCoe
open scoped BigOperators

namespace Cert.KernelIdeal.HostTables

open Cert.KernelIdeal Cert.KernelIdeal.Gen Cert.KernelIdeal.Block Cert.Proof.Sums

/-- The 32-bit test `|i − j| ≤ 1` on positions. -/
theorem band_bit : ∀ i j : Fin 128,
    IntOp.cmpi .sle (IntOp.absi (IntOp.subi (BitVec.ofNat 32 i.val) (BitVec.ofNat 32 j.val))) 1#32
      = if near i j then 1#1 else 0#1 := by decide +kernel

/-- The 32-bit test "first or last" on positions. -/
theorem edge_bit : ∀ i : Fin 128,
    IntOp.ori (IntOp.cmpi .eq (BitVec.ofNat 32 i.val) 0#32) (IntOp.cmpi .eq (BitVec.ofNat 32 i.val) 127#32)
      = if i.val = 0 ∨ i.val = 127 then 1#1 else 0#1 := by decide +kernel

/-- The 32-bit test "the two stacked rows belong to one image". -/
theorem img_bit : ∀ g g' : Fin 2,
    IntOp.cmpi .eq (IntOp.addi (BitVec.ofNat 32 g.val) 0#32) (BitVec.ofNat 32 g'.val)
      = if g = g' then 1#1 else 0#1 := by decide

/-- A truth bit converted to a float is 1 or 0. -/
theorem uitofp_ite (φ : FTy) (p : Prop) [Decidable p] :
    (FloatOps.uitofp φ (if p then 1#1 else 0#1) : Ideal φ) = (if p then (1 : EReal) else 0) := by
  show (((if p then 1#1 else 0#1 : BitVec 1).toNat : ℝ) : EReal) = _
  split_ifs <;> simp

/-- The f32 pattern `0x40000000` is two. -/
theorem ofBits_two : Ideal.ofBits .f32 0x40000000#32 = ((2 : ℝ) : EReal) := by
  simp [Ideal.ofBits, Ideal.ieee, -EReal.coe_mul]; norm_num

/-- The f32 pattern `0x40400000` is three. -/
theorem ofBits_three : Ideal.ofBits .f32 0x40400000#32 = ((3 : ℝ) : EReal) := by
  simp [Ideal.ofBits, Ideal.ieee, -EReal.coe_mul]; norm_num

/-- The selected constant, two at an edge and three inside, is the count of positions. -/
theorem select_edge (i : Fin 128) :
    Scalar.select (if i.val = 0 ∨ i.val = 127 then 1#1 else 0#1) ((2 : ℝ) : EReal) ((3 : ℝ) : EReal)
      = ((edge i : ℝ) : EReal) := by
  unfold edge
  split_ifs <;> rfl

variable (m : (ℓ : Loc nD τ sig) → Buf (Elt Ideal) ℓ) (c : Dev nD)

/-- The band: 1 where the two columns are at distance at most one, else 0. -/
theorem band (i j : Fin 128) : V m c main_v9 (ix2 i j) = (if near i j then (1 : EReal) else 0) := by
  unfold_abbrev_sides
  simp only [List.flatten_cons, List.flatten_nil, List.append_nil, List.cons_append, List.nil_append]
  after_reads_at
  rw [band_bit]
  exact uitofp_ite .bf16 (near i j)

/-- The reciprocal counts: one over the number of window positions inside the image. -/
theorem recip (i j : Fin 128) : V m c main_v32 (ix3 0 i j) = ((1 / (edge i * edge j) : ℝ) : EReal) := by
  unfold_abbrev_sides
  simp only [List.flatten_cons, List.flatten_nil, List.append_nil, List.cons_append, List.nil_append]
  after_reads_at
  rw [id]
  clean_types
  pointwise [edge_bit, ofBits_two, ofBits_three, select_edge]
  rw [← EReal.coe_mul, Ideal.div_coe (mul_ne_zero (edge_ne_zero i) (edge_ne_zero j)), one_mul]

/-- The stacked bias: row `r` holds the bias of its channel. -/
theorem bias (r : Fin 128) :
    V m c main_v36 (ix3 r 0 0) = m ((c : Thread nD τ).loc main_arg2) (ix1 (chan r)) := by
  unfold_abbrev_sides
  simp only [List.flatten_cons, List.flatten_nil, List.append_nil, List.cons_append, List.nil_append]
  after_reads_at
  rfl

/-- The stacked weights: rows of one image hold the weight of their channels, rows of two images hold 0. -/
theorem weights (r k : Fin 128) :
    V m c main_v44 (ix2 r k)
      = (if img r = img k then (1 : EReal) else 0) * m ((c : Thread nD τ).loc main_arg1) (ix2 (chan r) (chan k)) := by
  unfold_abbrev_sides
  simp only [List.flatten_cons, List.flatten_nil, List.append_nil, List.cons_append, List.nil_append]
  after_reads_at
  refine congrArg₂ (· * ·) ?_ rfl
  refine (congrArg (FloatOps.uitofp FTy.f32) (img_bit (img r) (img k))).trans ?_
  exact uitofp_ite .f32 (img r = img k)

end Cert.KernelIdeal.HostTables
-- ==== Proof.Kernel.lean ====
/-
  WHAT THE KERNEL'S ARRAY HOLDS. Grid point `t` computes the images `2t` and `2t+1`; its blocks tile the result, so
  the final array is one function of the three arguments, stated here element by element.
-/
module

public import proofs.«01_k».proof.Proof.Block
public import proofs.«01_k».proof.Proof.HostTables
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe
open scoped BigOperators

namespace Cert.KernelIdeal.Result

open Cert.KernelIdeal Cert.KernelIdeal.Gen Cert.KernelIdeal.Block Cert.KernelIdeal.HostTables Cert.Proof.Sums

/-- The pair of images that image `b` is computed with: `2t` and `2t + 1`, for `t = b / 2`. -/
def mate (b : Fin 32) (g : Fin 2) : Fin 32 := ⟨2 * (b.val / 2) + g.val, by omega⟩

/-- One element of the kernel's result, as its block computes it from the arguments: the input's element, plus the
    mixed and summed box of the pair of images times the reciprocal count, plus the bias. -/
def out (x : FVec Ideal S32x64x128x128 .f32) (wt : FVec Ideal S64x64 .f32) (bs : FVec Ideal S64 .f32)
    (b : Fin 32) (o : Fin 64) (h w : Fin 128) : EReal :=
  x (ix4 b o h w)
    + (∑ w' : Fin 128, (∑ k : Fin 128, ((if (⟨b.val % 2, Nat.mod_lt _ two_pos⟩ : Fin 2) = img k then (1 : EReal) else 0)
          * wt (ix2 o (chan k))) * colSum (fun h' => x (ix4 (mate b (img k)) (chan k) h' w')) h)
        * (if near w' w then (1 : EReal) else 0)) * ((1 / (edge h * edge w) : ℝ) : EReal)
    + bs (ix1 o)

/-- Equal middle terms give equal results. -/
theorem congr_middle (a v b : EReal) {s s' : EReal} (h : s = s') : a + s * v + b = a + s' * v + b := by rw [h]

variable (m : (ℓ : Loc nD τ sig) → Buf (Elt Ideal) ℓ) (c : Dev nD)

/-- The image window's block at point `t` is the pair number `t`. -/
theorem idx0 : ∀ t : Fin cfg0.N, win0_0.index t = ![(grid0.coords t 0).val, 0, 0, 0] :=
  (by decide +kernel : ∀ t : Fin grid0.N, win0_0.index t = ![(grid0.coords t 0).val, 0, 0, 0])

/-- The weights' block is always the first. -/
theorem idx1 : ∀ t : Fin cfg0.N, win0_1.index t = ![0, 0] :=
  (by decide +kernel : ∀ t : Fin grid0.N, win0_1.index t = ![0, 0])

/-- The bias' block is always the first. -/
theorem idx2 : ∀ t : Fin cfg0.N, win0_2.index t = ![0, 0, 0] :=
  (by decide +kernel : ∀ t : Fin grid0.N, win0_2.index t = ![0, 0, 0])

/-- The band's block is always the first. -/
theorem idx3 : ∀ t : Fin cfg0.N, win0_3.index t = ![0, 0] :=
  (by decide +kernel : ∀ t : Fin grid0.N, win0_3.index t = ![0, 0])

/-- The reciprocals' block is always the first. -/
theorem idx4 : ∀ t : Fin cfg0.N, win0_4.index t = ![0, 0, 0] :=
  (by decide +kernel : ∀ t : Fin grid0.N, win0_4.index t = ![0, 0, 0])

/-- The result window's block at point `t` is the pair number `t`. -/
theorem idx5 : ∀ t : Fin cfg0.N, win0_5.index t = ![(grid0.coords t 0).val, 0, 0, 0] :=
  (by decide +kernel : ∀ t : Fin grid0.N, win0_5.index t = ![(grid0.coords t 0).val, 0, 0, 0])

/-- The weights' block is the whole array, at every grid point. -/
theorem whole1 (t : Fin cfg0.N) (X : FVec Ideal S128x128 .f32) :
    (((cfg0.win 1).blk t).view.read (Elt Ideal) X : FVec Ideal S128x128 .f32) = X := by
  funext j
  blk_ext [idx1 t]

/-- The bias' block is the whole array, at every grid point. -/
theorem whole2 (t : Fin cfg0.N) (X : FVec Ideal S128x1x1 .f32) :
    (((cfg0.win 2).blk t).view.read (Elt Ideal) X : FVec Ideal S128x1x1 .f32) = X := by
  funext j
  blk_ext [idx2 t]

/-- The band's block is the whole array, at every grid point. -/
theorem whole3 (t : Fin cfg0.N) (X : FVec Ideal S128x128 .f32) :
    (((cfg0.win 3).blk t).view.read (Elt Ideal) X : FVec Ideal S128x128 .f32) = X := by
  funext j
  blk_ext [idx3 t]

/-- The reciprocals' block is the whole array, at every grid point. -/
theorem whole4 (t : Fin cfg0.N) (X : FVec Ideal S1x128x128 .f32) :
    (((cfg0.win 4).blk t).view.read (Elt Ideal) X : FVec Ideal S1x128x128 .f32) = X := by
  funext j
  blk_ext [idx4 t]

/-- What grid point `t` computes at an element of its block is `out` at that element's place in the result. -/
theorem point (t : Fin cfg0.N) (g : Fin 2) (o : Fin 64) (h w : Fin 128) (b : Fin 32)
    (hb : b.val = (grid0.coords t 0).val * 2 + g.val) :
    k0_pay1 (iblk m c 0 t) (iblk m c 1 t) (iblk m c 3 t) (iblk m c 4 t) (iblk m c 2 t) (ix4 g o h w)
      = out (m ((c : Thread nD τ).loc main_arg0)) (m ((c : Thread nD τ).loc main_arg1))
          (m ((c : Thread nD τ).loc main_arg2)) b o h w := by
  have hx : ∀ (g' : Fin 2) (o' : Fin 64) (h' w' : Fin 128),
      iblk m c 0 t (ix4 g' o' h' w') = m ((c : Thread nD τ).loc main_arg0) (ix4 (mate b g') o' h' w') := fun g' o' h' w' => by
    blk_ext! [iblk, V, idx0 t, mate, hb]
  have h1 : (iblk m c 1 t : FVec Ideal S128x128 .f32) = V m c main_v44 := whole1 t _
  have h2 : (iblk m c 2 t : FVec Ideal S128x1x1 .f32) = V m c main_v36 := whole2 t _
  have h3 : (iblk m c 3 t : FVec Ideal S128x128 .f32) = V m c main_v9 := whole3 t _
  have h4 : (iblk m c 4 t : FVec Ideal S1x128x128 .f32) = V m c main_v32 := whole4 t _
  rw [h1, h2, h3, h4]
  have hg : (⟨b.val % 2, Nat.mod_lt _ two_pos⟩ : Fin 2) = g := Fin.ext (by
    have := g.isLt
    show b.val % 2 = g.val
    omega)
  have hm : mate b g = b := Fin.ext (by
    have := g.isLt
    show 2 * (b.val / 2) + g.val = b.val
    omega)
  refine (pay_apply _ _ _ _ _ g o h w).trans ?_
  rw [bias m c, recip m c, hx, hm, chan_row]
  unfold out
  rw [hg]
  refine congr_middle _ _ _ ?_
  refine Finset.sum_congr rfl fun w' _ => congrArg₂ (fun p q : EReal => p * q) (Finset.sum_congr rfl fun k _ => ?_) (band m c w' w)
  refine congrArg₂ (fun p q : EReal => p * q) ?_ ?_
  · rw [weights m c, img_row, chan_row]
  · exact congrArg (fun f => colSum f h) (funext fun h' => hx _ _ _ _)

/-- The kernel's final array is `out` at every element. -/
theorem array : (dats m 0 c).arrAt 5 cfg0.N = fun i =>
    out (m ((c : Thread nD τ).loc main_arg0)) (m ((c : Thread nD τ).loc main_arg1)) (m ((c : Thread nD τ).loc main_arg2))
      (i 0) (i 1) (i 2) (i 3) := by
  refine (dats m 0 c).arrAt_eq_of_covers 5 _ (by decide +kernel) fun t hf y => ?_
  blk_simp
  rw [after0_5]
  frame_out
  obtain ⟨g, o, h, w, rfl⟩ : ∃ (g : Fin 2) (o : Fin 64) (h w : Fin 128), y = ix4 g o h w :=
    ⟨y 0, y 1, y 2, y 3, eq_ix4 y⟩
  have e0 : ((((View.whole main_v45).slice (win0_5.rect t)).emb (ix4 g o h w) 0 : Fin 32) : ℕ)
      = (grid0.coords t 0).val * 2 + g.val := by blk_simp [idx5 t]
  have e1 : (((View.whole main_v45).slice (win0_5.rect t)).emb (ix4 g o h w) 1 : Fin 64) = o := Fin.ext (by blk_simp [idx5 t])
  have e2 : (((View.whole main_v45).slice (win0_5.rect t)).emb (ix4 g o h w) 2 : Fin 128) = h := Fin.ext (by blk_simp [idx5 t])
  have e3 : (((View.whole main_v45).slice (win0_5.rect t)).emb (ix4 g o h w) 3 : Fin 128) = w := Fin.ext (by blk_simp [idx5 t])
  rw [e1, e2, e3]
  exact point m c t g o h w _ e0

end Cert.KernelIdeal.Result

end
-- ==== Proof.Ref.lean ====
/-
  WHAT THE REFERENCE COMPUTES, at one element: the input's element, plus the weighted sum over the channels of the
  3 × 3 box sum over the count of places in the box, plus the bias.
-/
module

public import proofs.«01_k».proof.Proof.Gen.ReferenceIdeal.Run
public import proofs.«01_k».proof.Proof.Window
public import Idealize.ShloMosaic.Lib.IdealHost
public import Idealize.ShloMosaic.Lib.Pointwise

@[expose] public section

noncomputable section

open Idealize.ShloMosaic Idealize.ShloMosaic.TcCoe
open scoped BigOperators

namespace Cert.ReferenceIdeal.Element

open Cert.ReferenceIdeal Cert.ReferenceIdeal.Gen Cert.Proof.Window

/-- One element of the reference's result. -/
def out (x : FVec Ideal S32x64x128x128 .f32) (wt : FVec Ideal S64x64 .f32) (bs : FVec Ideal S64 .f32)
    (b : Fin 32) (o : Fin 64) (h w : Fin 128) : EReal :=
  x (ix4 b o h w)
    + ((∑ k : Fin 64, wt (ix2 o k) * Ideal.div (win3 (fun h' => win3 (fun w' => x (ix4 b k h' w')) w) h)
          (win3 (fun _ => win3 (fun _ => (1 : EReal)) w) h))
      + bs (ix1 o))

/-- The array the window sums start from is zero. -/
theorem zeros : (broadcastInDim S_ ![] bcast_S_S_ (constant S_ .f32 0x00000000#32) : FVec Ideal S_ .f32) = fun _ => (0 : EReal) := by
  funext i
  exact Ideal.ofBits_zero_f32

/-- The array whose window sums count places is one everywhere. -/
theorem ones : (broadcastInDim S128x128 ![] bcast_S_S128x128 (constant S_ .f32 0x3F800000#32) : FVec Ideal S128x128 .f32)
    = fun _ => (1 : EReal) := by
  funext i
  exact Ideal.ofBits_one_f32

/-- The reference's composed term, as one function of the three arguments, is `out` at every element. -/
theorem term (x : FVec Ideal S32x64x128x128 .f32) (wt : FVec Ideal S64x64 .f32) (bs : FVec Ideal S64 .f32)
    (b : Fin 32) (o : Fin 64) (h w : Fin 128) :
    (addf x (addf (transpose S32x64x128x128 [1, 0, 2, 3] (Host.dotGeneral dot_S64x64_S32x64x128x128_S64x32x128x128_1_1_0_023_n_n none wt (Host.divf (Host.reduceWindowAdd ![1, 1, 3, 3] ![1, 1, 1, 1] ![0, 0, 1, 1] ![0, 0, 1, 1] x (broadcastInDim S_ ![] bcast_S_S_ (constant S_ .f32 0x00000000#32)) reduceWindows_S32x64x128x128_S32x64x128x128_w1s1p0_0_w1s1p0_0_w3s1p1_1_w3s1p1_1 h_S_) (broadcastInDim S32x64x128x128 ![0, 1, 2, 3] bcast_S1x1x128x128_S32x64x128x128_0_1_2_3 (broadcastInDim S1x1x128x128 ![2, 3] bcast_S128x128_S1x1x128x128_2_3 (Host.reduceWindowAdd ![3, 3] ![1, 1] ![1, 1] ![1, 1] (broadcastInDim S128x128 ![] bcast_S_S128x128 (constant S_ .f32 0x3F800000#32)) (broadcastInDim S_ ![] bcast_S_S_ (constant S_ .f32 0x00000000#32)) reduceWindows_S128x128_S128x128_w3s1p1_1_w3s1p1_1 h_S_))))) transposes_S64x32x128x128_S32x64x128x128_1_0_2_3) (broadcastInDim S32x64x128x128 ![0, 1, 2, 3] bcast_S1x64x1x1_S32x64x128x128_0_1_2_3 (broadcastInDim S1x64x1x1 ![1] bcast_S64_S1x64x1x1_1 bs)))
      : FVec Ideal S32x64x128x128 .f32) (ix4 b o h w) = out x wt bs b o h w := by
  pointwise [out]
  refine congrArg (fun r => x (ix4 b o h w) + (r + bs (ix1 o))) (Finset.sum_congr rfl fun k _ => ?_)
  refine congrArg₂ (fun p q => wt (ix2 o k) * Ideal.div p q) ?_ ?_
  · rw [zeros]
    exact box4 reduceWindows_S32x64x128x128_S32x64x128x128_w1s1p0_0_w1s1p0_0_w3s1p1_1_w3s1p1_1 x b k h w
  · rw [zeros, ones]
    exact box2 reduceWindows_S128x128_S128x128_w3s1p1_1_w3s1p1_1 (fun _ => 1) h w

end Cert.ReferenceIdeal.Element

end
-- ==== Proof.Equal.lean ====
/-
  THE EQUATION. Where every element of the input and of the weights is a real number, the kernel's element is the
  reference's. The bias may be anything: it is added last on both sides, and addition is associative.
-/
module

public import proofs.«01_k».proof.Proof.Kernel
public import proofs.«01_k».proof.Proof.Ref

@[expose] public section

noncomputable section

open Idealize.ShloMosaic
open scoped BigOperators

namespace Cert.Proof.Equal

open Cert.KernelIdeal Cert.KernelIdeal.Block Cert.Proof.Sums Cert.Proof.Window

/-- One element: the kernel's stacked, mixed and summed box times the reciprocal count is the reference's weighted sum
    of averages. -/
theorem element (x : FVec Ideal S32x64x128x128 .f32) (wt : FVec Ideal S64x64 .f32) (bs : FVec Ideal S64 .f32)
    (hx : ∀ i, (((x i : EReal).toReal : ℝ) : EReal) = x i) (hw : ∀ i, (((wt i : EReal).toReal : ℝ) : EReal) = wt i)
    (b : Fin 32) (o : Fin 64) (h w : Fin 128) :
    Cert.KernelIdeal.Result.out x wt bs b o h w = Cert.ReferenceIdeal.Element.out x wt bs b o h w := by
  obtain ⟨X, rfl⟩ : ∃ X : S32x64x128x128.Idx → ℝ, x = fun i => ((X i : ℝ) : EReal) :=
    ⟨fun i => (x i : EReal).toReal, funext fun i => (hx i).symm⟩
  obtain ⟨W, rfl⟩ : ∃ W : S64x64.Idx → ℝ, wt = fun i => ((W i : ℝ) : EReal) :=
    ⟨fun i => (wt i : EReal).toReal, funext fun i => (hw i).symm⟩
  have key := ereal_eq (⟨b.val % 2, Nat.mod_lt _ two_pos⟩ : Fin 2) (fun k => W (ix2 o k))
    (fun k h' w' => X (ix4 (Cert.KernelIdeal.Result.mate b (img k)) (chan k) h' w')) h w
  have hm : Cert.KernelIdeal.Result.mate b ⟨b.val % 2, Nat.mod_lt _ two_pos⟩ = b := Fin.ext (by
    show 2 * (b.val / 2) + b.val % 2 = b.val
    omega)
  simp only [img_row, chan_row, hm] at key
  unfold Cert.KernelIdeal.Result.out Cert.ReferenceIdeal.Element.out
  refine (add_assoc (G := EReal) _ _ _).trans ?_
  refine congrArg (fun s : EReal => ((X (ix4 b o h w) : ℝ) : EReal) + (s + bs (ix1 o))) ?_
  simpa only [ite_mul, one_mul, zero_mul] using key

end Cert.Proof.Equal

end
-- ==== Proof.lean ====
/-
  THE CLAIM. Assembled from the modules beside this one: the two programs' frames; nothing was rewritten between the
  kernel and its ideal form; and, on finite input and weights, the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_args
public import proofs.«01_k».proof.Proof.Finite
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference ends, its arguments unchanged and every counter at zero. -/
theorem frame_reference : Cert.quiescent_ReferenceIdeal := fun m ρ _ =>
  (θ_run _ _ _).mono (fun r h => ⟨fun c => ⟨(h c).2.1, (h c).2.2.1, (h c).2.2.2⟩,
    Idealize.ShloMosaic.sem_eq_zero_of_no_sems (by decide) r.2⟩) (Cert.ReferenceIdeal.Value.run m ρ)

/-- From memories that agree on the arguments and pass `finite_args`, the kernel's ideal form and the reference end with
    the same result: at every element, `Result.out` is `Element.out`. -/
theorem same_result : Cert.algebraic_KernelIdeal_ReferenceIdeal_pre_finite_args := fun m ρ m' ρ' hpre hagree => by
  refine ⟨fun c => (Cert.KernelIdeal.Gen.dats m 0 c).arrAt 5 Cert.KernelIdeal.cfg0.N, ?_, ?_⟩
  · exact Cert.KernelIdeal.Value.run_blocks m ρ
  · refine (θ_run _ _ _).mono (fun r h c => ⟨(h c).1.trans ?_, (h c).2⟩) (Cert.ReferenceIdeal.Value.run m' ρ')
    obtain ⟨hx, hw⟩ := Cert.Pre_finite_args.Meaning.real_args _ _ _ (hpre c)
    obtain ⟨e0, e1, e2⟩ := hagree c
    refine Eq.trans ?_ (Cert.KernelIdeal.Result.array m c).symm
    rw [e0, e1, e2]
    funext i
    obtain ⟨b, o, h', w, rfl⟩ : ∃ (b : Fin 32) (o : Fin 64) (h' w : Fin 128), i = ix4 b o h' w := ⟨i 0, i 1, i 2, i 3, eq_ix4 i⟩
    exact (Cert.ReferenceIdeal.Element.term _ _ _ b o h' w).trans
      (Cert.Proof.Equal.element _ _ _ hx hw b o h' w).symm

/-- The certificate's claim. -/
theorem claim : Cert.Claim := ⟨Cert.Kernel.Gen.facts, Cert.KernelIdeal.Gen.facts, Cert.ReferenceIdeal.Gen.facts,
  Cert.Pre_finite_args.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  same_result⟩

end Cert.Proof

end
